-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x768x32x32 : Shape := ⟨4, ![4, 768, 32, 32]⟩
abbrev S768x768x3x3 : Shape := ⟨4, ![768, 768, 3, 3]⟩
abbrev S768 : Shape := ⟨1, ![768]⟩
abbrev S5x768x1x1 : Shape := ⟨4, ![5, 768, 1, 1]⟩
abbrev S5 : Shape := ⟨1, ![5]⟩
abbrev S100x768 : Shape := ⟨2, ![100, 768]⟩
abbrev S4x32x32x768 : Shape := ⟨4, ![4, 32, 32, 768]⟩
abbrev S_ : Shape := ⟨0, ![]⟩
abbrev S4x34x34x768 : Shape := ⟨4, ![4, 34, 34, 768]⟩
abbrev S3x3x768x768 : Shape := ⟨4, ![3, 3, 768, 768]⟩
abbrev S9x768x768 : Shape := ⟨3, ![9, 768, 768]⟩
abbrev S5x768 : Shape := ⟨2, ![5, 768]⟩
abbrev S768x5 : Shape := ⟨2, ![768, 5]⟩
abbrev S768x128 : Shape := ⟨2, ![768, 128]⟩
abbrev S1x768 : Shape := ⟨2, ![1, 768]⟩
abbrev S128 : Shape := ⟨1, ![128]⟩
abbrev S1x128 : Shape := ⟨2, ![1, 128]⟩
abbrev S4x100x128 : Shape := ⟨3, ![4, 100, 128]⟩
abbrev S1x34x34x768 : Shape := ⟨4, ![1, 34, 34, 768]⟩
abbrev S1x100x128 : Shape := ⟨3, ![1, 100, 128]⟩
abbrev S34x34x768 : Shape := ⟨3, ![34, 34, 768]⟩
abbrev S34x32x768 : Shape := ⟨3, ![34, 32, 768]⟩
abbrev S1024x768 : Shape := ⟨2, ![1024, 768]⟩
abbrev S32x32x768 : Shape := ⟨3, ![32, 32, 768]⟩
abbrev S1x768x768 : Shape := ⟨3, ![1, 768, 768]⟩
abbrev S768x768 : Shape := ⟨2, ![768, 768]⟩
abbrev S1024x128 : Shape := ⟨2, ![1024, 128]⟩
abbrev S1024x1 : Shape := ⟨2, ![1024, 1]⟩
abbrev S128x1024 : Shape := ⟨2, ![128, 1024]⟩
abbrev S1x1024 : Shape := ⟨2, ![1, 1024]⟩
abbrev S256x1024 : Shape := ⟨2, ![256, 1024]⟩
abbrev S256x1 : Shape := ⟨2, ![256, 1]⟩
abbrev S1024 : Shape := ⟨1, ![1024]⟩
abbrev S100x1024 : Shape := ⟨2, ![100, 1024]⟩
abbrev S100x128 : Shape := ⟨2, ![100, 128]⟩
abbrev S4x100x5 : Shape := ⟨3, ![4, 100, 5]⟩
abbrev S1x100x768 : Shape := ⟨3, ![1, 100, 768]⟩
abbrev S4x100x768 : Shape := ⟨3, ![4, 100, 768]⟩

abbrev nBuf : Space → Nat
  | .hbm => 29
  | .vmem => 8
  | .smem => 0
  | _ => 0

abbrev bufTy : (tb : Table) → Fin (tcTables nBuf tb) → BufTy
  | .hbm, ⟨0, _⟩ => ⟨S4x768x32x32, .f32⟩
  | .hbm, ⟨1, _⟩ => ⟨S768x768x3x3, .f32⟩
  | .hbm, ⟨2, _⟩ => ⟨S768, .f32⟩
  | .hbm, ⟨3, _⟩ => ⟨S5x768x1x1, .f32⟩
  | .hbm, ⟨4, _⟩ => ⟨S5, .f32⟩
  | .hbm, ⟨5, _⟩ => ⟨S100x768, .f32⟩
  | .hbm, ⟨6, _⟩ => ⟨S100x768, .f32⟩
  | .hbm, ⟨7, _⟩ => ⟨S4x32x32x768, .f32⟩
  | .hbm, ⟨8, _⟩ => ⟨S_, .i32⟩
  | .hbm, ⟨9, _⟩ => ⟨S_, .f32⟩
  | .hbm, ⟨10, _⟩ => ⟨S4x34x34x768, .f32⟩
  | .hbm, ⟨11, _⟩ => ⟨S3x3x768x768, .f32⟩
  | .hbm, ⟨12, _⟩ => ⟨S9x768x768, .f32⟩
  | .hbm, ⟨13, _⟩ => ⟨S5x768, .f32⟩
  | .hbm, ⟨14, _⟩ => ⟨S768x5, .f32⟩
  | .hbm, ⟨15, _⟩ => ⟨S_, .i32⟩
  | .hbm, ⟨16, _⟩ => ⟨S_, .f32⟩
  | .hbm, ⟨17, _⟩ => ⟨S768x128, .f32⟩
  | .hbm, ⟨18, _⟩ => ⟨S1x768, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S4x100x128, .f32⟩
  | .hbm, ⟨24, _⟩ => ⟨S4x100x5, .f32⟩
  | .hbm, ⟨25, _⟩ => ⟨S1x100x768, .f32⟩
  | .hbm, ⟨26, _⟩ => ⟨S4x100x768, .f32⟩
  | .hbm, ⟨27, _⟩ => ⟨S1x100x768, .f32⟩
  | .hbm, ⟨28, _⟩ => ⟨S4x100x768, .f32⟩
  | .local _ .vmem, ⟨0, _⟩ => ⟨S1x34x34x768, .f32⟩
  | .local _ .vmem, ⟨1, _⟩ => ⟨S1x34x34x768, .f32⟩
  | .local _ .vmem, ⟨2, _⟩ => ⟨S9x768x768, .f32⟩
  | .local _ .vmem, ⟨3, _⟩ => ⟨S1x768, .f32⟩
  | .local _ .vmem, ⟨4, _⟩ => ⟨S768x128, .f32⟩
  | .local _ .vmem, ⟨5, _⟩ => ⟨S1x128, .f32⟩
  | .local _ .vmem, ⟨6, _⟩ => ⟨S1x100x128, .f32⟩
  | .local _ .vmem, ⟨7, _⟩ => ⟨S1x100x128, .f32⟩
  | _, _ => ⟨S4x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call2_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x34x34x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x100x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x768x32x32 : Shape := ⟨4, ![4, 768, 32, 32]⟩
abbrev S768x768x3x3 : Shape := ⟨4, ![768, 768, 3, 3]⟩
abbrev S768 : Shape := ⟨1, ![768]⟩
abbrev S5x768x1x1 : Shape := ⟨4, ![5, 768, 1, 1]⟩
abbrev S5 : Shape := ⟨1, ![5]⟩
abbrev S100x768 : Shape := ⟨2, ![100, 768]⟩
abbrev S_ : Shape := ⟨0, ![]⟩
abbrev S4x768x34x34 : Shape := ⟨4, ![4, 768, 34, 34]⟩
abbrev S768x768x1x1 : Shape := ⟨4, ![768, 768, 1, 1]⟩
abbrev S768x768 : Shape := ⟨2, ![768, 768]⟩
abbrev S768x4x32x32 : Shape := ⟨4, ![768, 4, 32, 32]⟩
abbrev S1x768x1x1 : Shape := ⟨4, ![1, 768, 1, 1]⟩
abbrev S5x768 : Shape := ⟨2, ![5, 768]⟩
abbrev S5x4x32x32 : Shape := ⟨4, ![5, 4, 32, 32]⟩
abbrev S4x5x32x32 : Shape := ⟨4, ![4, 5, 32, 32]⟩
abbrev S1x5x1x1 : Shape := ⟨4, ![1, 5, 1, 1]⟩
abbrev S4x32x32x5 : Shape := ⟨4, ![4, 32, 32, 5]⟩
abbrev S4x1024x5 : Shape := ⟨3, ![4, 1024, 5]⟩
abbrev S4x1024x4 : Shape := ⟨3, ![4, 1024, 4]⟩
abbrev S4x1024x1 : Shape := ⟨3, ![4, 1024, 1]⟩
abbrev S4x1024 : Shape := ⟨2, ![4, 1024]⟩
abbrev S4x100 : Shape := ⟨2, ![4, 100]⟩
abbrev S4x100x1 : Shape := ⟨3, ![4, 100, 1]⟩
abbrev S1 : Shape := ⟨1, ![1]⟩
abbrev S1x1x1 : Shape := ⟨3, ![1, 1, 1]⟩
abbrev S4x100x4 : Shape := ⟨3, ![4, 100, 4]⟩
abbrev S1x100x768 : Shape := ⟨3, ![1, 100, 768]⟩
abbrev S4x100x768 : Shape := ⟨3, ![4, 100, 768]⟩
abbrev S4x100x5 : Shape := ⟨3, ![4, 100, 5]⟩

abbrev nBuf : Space → Nat
  | .hbm => 122
  | .vmem => 0
  | .smem => 0
  | _ => 0

abbrev bufTy : (tb : Table) → Fin (tcTables nBuf tb) → BufTy
  | .hbm, ⟨0, _⟩ => ⟨S4x768x32x32, .f32⟩
  | .hbm, ⟨1, _⟩ => ⟨S768x768x3x3, .f32⟩
  | .hbm, ⟨2, _⟩ => ⟨S768, .f32⟩
  | .hbm, ⟨3, _⟩ => ⟨S5x768x1x1, .f32⟩
  | .hbm, ⟨4, _⟩ => ⟨S5, .f32⟩
  | .hbm, ⟨5, _⟩ => ⟨S100x768, .f32⟩
  | .hbm, ⟨6, _⟩ => ⟨S100x768, .f32⟩
  | .hbm, ⟨7, _⟩ => ⟨S_, .i32⟩
  | .hbm, ⟨8, _⟩ => ⟨S_, .f32⟩
  | .hbm, ⟨9, _⟩ => ⟨S4x768x34x34, .f32⟩
  | .hbm, ⟨10, _⟩ => ⟨S4x768x32x32, .f32⟩
  | .hbm, ⟨11, _⟩ => ⟨S768x768x1x1, .f32⟩
  | .hbm, ⟨12, _⟩ => ⟨S768x768, .f32⟩
  | .hbm, ⟨13, _⟩ => ⟨S768x4x32x32, .f32⟩
  | .hbm, ⟨14, _⟩ => ⟨S4x768x32x32, .f32⟩
  | .hbm, ⟨15, _⟩ => ⟨S_, .f32⟩
  | .hbm, ⟨16, _⟩ => ⟨S4x768x32x32, .f32⟩
  | .hbm, ⟨17, _⟩ => ⟨S4x768x32x32, .f32⟩
  | .hbm, ⟨18, _⟩ => ⟨S4x768x32x32, .f32⟩
  | .hbm, ⟨19, _⟩ => ⟨S768x768x1x1, .f32⟩
  | .hbm, ⟨20, _⟩ => ⟨S768x768, .f32⟩
  | .hbm, ⟨21, _⟩ => ⟨S768x4x32x32, .f32⟩
  | .hbm, ⟨22, _⟩ => ⟨S4x768x32x32, .f32⟩
  | .hbm, ⟨23, _⟩ => ⟨S4x768x32x32, .f32⟩
  | .hbm, ⟨24, _⟩ => ⟨S4x768x32x32, .f32⟩
  | .hbm, ⟨25, _⟩ => ⟨S768x768x1x1, .f32⟩
  | .hbm, ⟨26, _⟩ => ⟨S768x768, .f32⟩
  | .hbm, ⟨27, _⟩ => ⟨S768x4x32x32, .f32⟩
  | .hbm, ⟨28, _⟩ => ⟨S4x768x32x32, .f32⟩
  | .hbm, ⟨29, _⟩ => ⟨S4x768x32x32, .f32⟩
  | .hbm, ⟨30, _⟩ => ⟨S4x768x32x32, .f32⟩
  | .hbm, ⟨31, _⟩ => ⟨S768x768x1x1, .f32⟩
  | .hbm, ⟨32, _⟩ => ⟨S768x768, .f32⟩
  | .hbm, ⟨33, _⟩ => ⟨S768x4x32x32, .f32⟩
  | .hbm, ⟨34, _⟩ => ⟨S4x768x32x32, .f32⟩
  | .hbm, ⟨35, _⟩ => ⟨S4x768x32x32, .f32⟩
  | .hbm, ⟨36, _⟩ => ⟨S4x768x32x32, .f32⟩
  | .hbm, ⟨37, _⟩ => ⟨S768x768x1x1, .f32⟩
  | .hbm, ⟨38, _⟩ => ⟨S768x768, .f32⟩
  | .hbm, ⟨39, _⟩ => ⟨S768x4x32x32, .f32⟩
  | .hbm, ⟨40, _⟩ => ⟨S4x768x32x32, .f32⟩
  | .hbm, ⟨41, _⟩ => ⟨S4x768x32x32, .f32⟩
  | .hbm, ⟨42, _⟩ => ⟨S4x768x32x32, .f32⟩
  | .hbm, ⟨43, _⟩ => ⟨S768x768x1x1, .f32⟩
  | .hbm, ⟨44, _⟩ => ⟨S768x768, .f32⟩
  | .hbm, ⟨45, _⟩ => ⟨S768x4x32x32, .f32⟩
  | .hbm, ⟨46, _⟩ => ⟨S4x768x32x32, .f32⟩
  | .hbm, ⟨47, _⟩ => ⟨S4x768x32x32, .f32⟩
  | .hbm, ⟨48, _⟩ => ⟨S4x768x32x32, .f32⟩
  | .hbm, ⟨49, _⟩ => ⟨S768x768x1x1, .f32⟩
  | .hbm, ⟨50, _⟩ => ⟨S768x768, .f32⟩
  | .hbm, ⟨51, _⟩ => ⟨S768x4x32x32, .f32⟩
  | .hbm, ⟨52, _⟩ => ⟨S4x768x32x32, .f32⟩
  | .hbm, ⟨53, _⟩ => ⟨S4x768x32x32, .f32⟩
  | .hbm, ⟨54, _⟩ => ⟨S4x768x32x32, .f32⟩
  | .hbm, ⟨55, _⟩ => ⟨S768x768x1x1, .f32⟩
  | .hbm, ⟨56, _⟩ => ⟨S768x768, .f32⟩
  | .hbm, ⟨57, _⟩ => ⟨S768x4x32x32, .f32⟩
  | .hbm, ⟨58, _⟩ => ⟨S4x768x32x32, .f32⟩
  | .hbm, ⟨59, _⟩ => ⟨S4x768x32x32, .f32⟩
  | .hbm, ⟨60, _⟩ => ⟨S4x768x32x32, .f32⟩
  | .hbm, ⟨61, _⟩ => ⟨S768x768x1x1, .f32⟩
  | .hbm, ⟨62, _⟩ => ⟨S768x768, .f32⟩
  | .hbm, ⟨63, _⟩ => ⟨S768x4x32x32, .f32⟩
  | .hbm, ⟨64, _⟩ => ⟨S4x768x32x32, .f32⟩
  | .hbm, ⟨65, _⟩ => ⟨S4x768x32x32, .f32⟩
  | .hbm, ⟨66, _⟩ => ⟨S1x768x1x1, .f32⟩
  | .hbm, ⟨67, _⟩ => ⟨S4x768x32x32, .f32⟩
  | .hbm, ⟨68, _⟩ => ⟨S4x768x32x32, .f32⟩
  | .hbm, ⟨69, _⟩ => ⟨S_, .f32⟩
  | .hbm, ⟨70, _⟩ => ⟨S4x768x32x32, .f32⟩
  | .hbm, ⟨71, _⟩ => ⟨S4x768x32x32, .f32⟩
  | .hbm, ⟨72, _⟩ => ⟨S5x768, .f32⟩
  | .hbm, ⟨73, _⟩ => ⟨S5x4x32x32, .f32⟩
  | .hbm, ⟨74, _⟩ => ⟨S4x5x32x32, .f32⟩
  | .hbm, ⟨75, _⟩ => ⟨S1x5x1x1, .f32⟩
  | .hbm, ⟨76, _⟩ => ⟨S4x5x32x32, .f32⟩
  | .hbm, ⟨77, _⟩ => ⟨S4x5x32x32, .f32⟩
  | .hbm, ⟨78, _⟩ => ⟨S4x32x32x5, .f32⟩
  | .hbm, ⟨79, _⟩ => ⟨S4x1024x5, .f32⟩
  | .hbm, ⟨80, _⟩ => ⟨S4x1024x5, .f32⟩
  | .hbm, ⟨81, _⟩ => ⟨S4x1024x5, .f32⟩
  | .hbm, ⟨82, _⟩ => ⟨S_, .f32⟩
  | .hbm, ⟨83, _⟩ => ⟨S4x1024x5, .f32⟩
  | .hbm, ⟨84, _⟩ => ⟨S4x1024x5, .f32⟩
  | .hbm, ⟨85, _⟩ => ⟨S_, .f32⟩
  | .hbm, ⟨86, _⟩ => ⟨S4x1024x5, .f32⟩
  | .hbm, ⟨87, _⟩ => ⟨S4x1024x5, .f32⟩
  | .hbm, ⟨88, _⟩ => ⟨S4x1024x4, .f32⟩
  | .hbm, ⟨89, _⟩ => ⟨S4x1024x1, .f32⟩
  | .hbm, ⟨90, _⟩ => ⟨S4x1024, .f32⟩
  | .hbm, ⟨91, _⟩ => ⟨S4x100, .f32⟩
  | .hbm, ⟨92, _⟩ => ⟨S4x100, .i32⟩
  | .hbm, ⟨93, _⟩ => ⟨S4x100x1, .i32⟩
  | .hbm, ⟨94, _⟩ => ⟨S_, .i32⟩
  | .hbm, ⟨95, _⟩ => ⟨S4x100x1, .i32⟩
  | .hbm, ⟨96, _⟩ => ⟨S4x100x1, .i1⟩
  | .hbm, ⟨97, _⟩ => ⟨S_, .i32⟩
  | .hbm, ⟨98, _⟩ => ⟨S4x100x1, .i32⟩
  | .hbm, ⟨99, _⟩ => ⟨S4x100x1, .i32⟩
  | .hbm, ⟨100, _⟩ => ⟨S4x100x1, .i32⟩
  | .hbm, ⟨101, _⟩ => ⟨S1, .i32⟩
  | .hbm, ⟨102, _⟩ => ⟨S_, .i32⟩
  | .hbm, ⟨103, _⟩ => ⟨S4x100x1, .i32⟩
  | .hbm, ⟨104, _⟩ => ⟨S4x100x1, .i1⟩
  | .hbm, ⟨105, _⟩ => ⟨S1x1x1, .i32⟩
  | .hbm, ⟨106, _⟩ => ⟨S4x100x1, .i32⟩
  | .hbm, ⟨107, _⟩ => ⟨S4x100x1, .i1⟩
  | .hbm, ⟨108, _⟩ => ⟨S4x100x1, .i1⟩
  | .hbm, ⟨109, _⟩ => ⟨S_, .i1⟩
  | .hbm, ⟨110, _⟩ => ⟨S4x100, .i1⟩
  | .hbm, ⟨111, _⟩ => ⟨S4x100x4, .f32⟩
  | .hbm, ⟨112, _⟩ => ⟨S4x100x4, .i1⟩
  | .hbm, ⟨113, _⟩ => ⟨S_, .f32⟩
  | .hbm, ⟨114, _⟩ => ⟨S4x100x4, .f32⟩
  | .hbm, ⟨115, _⟩ => ⟨S4x100x4, .f32⟩
  | .hbm, ⟨116, _⟩ => ⟨S1x100x768, .f32⟩
  | .hbm, ⟨117, _⟩ => ⟨S4x100x768, .f32⟩
  | .hbm, ⟨118, _⟩ => ⟨S1x100x768, .f32⟩
  | .hbm, ⟨119, _⟩ => ⟨S4x100x768, .f32⟩
  | .hbm, ⟨120, _⟩ => ⟨S4x100x1, .f32⟩
  | .hbm, ⟨121, _⟩ => ⟨S4x100x5, .f32⟩
  | _, _ => ⟨S4x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_call1_cst : Ref sig .tc := ⟨.hbm, 69, rfl⟩
abbrev main_call1_v0 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_0 : Ref sig .tc := ⟨.hbm, 82, rfl⟩
abbrev main_v70 : Ref sig .tc := ⟨.hbm, 83, rfl⟩
abbrev main_v71 : Ref sig .tc := ⟨.hbm, 84, rfl⟩
abbrev main_cst_1 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_values : Ref sig .tc := ⟨.hbm, 91, rfl⟩
abbrev main_indices : Ref sig .tc := ⟨.hbm, 92, rfl⟩
abbrev main_v77 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_c_1 : Ref sig .tc := ⟨.hbm, 101, rfl⟩
abbrev main_call2_c_2 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_c_3 : Ref sig .tc := ⟨.hbm, 109, rfl⟩
abbrev main_call2_v11 : Ref sig .tc := ⟨.hbm, 110, rfl⟩
abbrev main_call2_v12 : Ref sig .tc := ⟨.hbm, 111, rfl⟩
abbrev main_call2_v13 : Ref sig .tc := ⟨.hbm, 112, rfl⟩
abbrev main_call2_cst : Ref sig .tc := ⟨.hbm, 113, rfl⟩
abbrev main_call2_v14 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]
-- ==== Proof.KernelRun.lean ====
/-
  The kernel program's run, read through the host operations around its region: what the region's operand arrays hold
  when it starts, and what the three results hold at the end.
-/
module

public import proofs.«01_k».proof.Proof.Gen.KernelIdeal.Frame
public import Idealize.ShloMosaic.Lib.Claim
public import Idealize.ShloMosaic.Lib.StableHlo.RunRead
public import Idealize.ShloMosaic.Lib.Tactic.CleanTypes

@[expose] public section

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

variable {F : FTy → Type} [FloatOps F]

/-! ## The region's operands -/

/-- The features, channels last, with one row and one column of zeros on each side. -/
def featPadded (X : FVec F S4x768x32x32 .f32) : FVec F S4x34x34x768 .f32 :=
  pad S4x34x34x768 ![0, 1, 1, 0] ![0, 1, 1, 0] ![0, 0, 0, 0]
    (transpose S4x32x32x768 [0, 2, 3, 1] X transposes_S4x768x32x32_S4x32x32x768_0_2_3_1)
    (sitofp .f32 (constantI S_ 32 0#32)) pads_S4x32x32x768_S4x34x34x768_000_110_110_000 h_S_

/-- The convolution weights, one slab of inputs by outputs for each of the nine taps. -/
def weightSlabs (W : FVec F S768x768x3x3 .f32) : FVec F S9x768x768 .f32 :=
  shapeCast _ (transpose S3x3x768x768 [2, 3, 1, 0] W transposes_S768x768x3x3_S3x3x768x768_2_3_1_0)
    shapeCasts_S3x3x768x768_S9x768x768

/-- The first bias as a row. -/
def biasRow (b1 : FVec F S768 .f32) : FVec F S1x768 .f32 := shapeCast _ b1 shapeCasts_S768_S1x768

/-- The second layer's weights, inputs by outputs, with zero columns added up to 128. -/
def headPadded (W2 : FVec F S5x768x1x1 .f32) : FVec F S768x128 .f32 :=
  pad S768x128 ![0, 0] ![0, 123] ![0, 0]
    (transpose S768x5 [1, 0] (shapeCast _ W2 shapeCasts_S5x768x1x1_S5x768) transposes_S5x768_S768x5_1_0)
    (sitofp .f32 (constantI S_ 32 0#32)) pads_S768x5_S768x128_000_01230 h_S_

/-- The second bias with zeros added up to 128, as a row. -/
def headBias (b2 : FVec F S5 .f32) : FVec F S1x128 .f32 :=
  shapeCast _ (pad S128 ![0] ![123] ![0] b2 (sitofp .f32 (constantI S_ 32 0#32)) pads_S5_S128_01230 h_S_) shapeCasts_S128_S1x128

variable (m : (ℓ : Loc nD τ sig) → Buf (Elt F) ℓ) (ρ : Dev nD → PrngReg)

/-- When the region starts, its first operand holds the padded features. -/
theorem entry_features (c : Dev nD) : V m c main_v1 = featPadded (m ((c.tc : Thread nD τ).loc main_arg0)) := by
  unfold V V0
  after_reads_simp
  rfl

/-- When the region starts, its second operand holds the weight slabs. -/
theorem entry_weights (c : Dev nD) : V m c main_v3 = weightSlabs (m ((c.tc : Thread nD τ).loc main_arg1)) := by
  unfold V V0
  after_reads_simp
  rfl

/-- When the region starts, its third operand holds the first bias. -/
theorem entry_bias (c : Dev nD) : V m c main_v7 = biasRow (m ((c.tc : Thread nD τ).loc main_arg2)) := by
  unfold V V0
  after_reads_simp
  rfl

/-- When the region starts, its fourth operand holds the padded second layer's weights. -/
theorem entry_head (c : Dev nD) : V m c main_v6 = headPadded (m ((c.tc : Thread nD τ).loc main_arg3)) := by
  unfold V V0
  after_reads_simp
  rfl

/-- When the region starts, its fifth operand holds the padded second bias. -/
theorem entry_headBias (c : Dev nD) : V m c main_v9 = headBias (m ((c.tc : Thread nD τ).loc main_arg4)) := by
  unfold V V0
  after_reads_simp
  rfl

/-! ## The results -/

/-- A table of queries repeated for each batch. -/
def repeated (T : FVec F S100x768 .f32) : FVec F S4x100x768 .f32 :=
  broadcastInDim S4x100x768 ![0, 1, 2] bcast_S1x100x768_S4x100x768_0_1_2
    (broadcastInDim S1x100x768 ![1, 2] bcast_S100x768_S1x100x768_1_2 T)

/-- The first five of the region's 128 output columns. -/
def firstFive (O : FVec F S4x100x128 .f32) : FVec F S4x100x5 .f32 :=
  extractStridedSlice S4x100x5 ![0, 0, 0] O slices_S4x100x128_S4x100x5_0_0_0

/-- From any memory with zero counters every execution of the kernel program terminates; its first two results are the
    query tables repeated, its third the first five columns of what the region leaves, and its arguments end unchanged. -/
theorem run : θ_run defs (onTc (τ := τ) (main (F := F))) ⟨m, fun _ => 0, ρ⟩ fun r => ∀ c : Dev nD,
      r.2.mem ((c.tc : Thread nD τ).loc main_v13) = repeated (m ((c.tc : Thread nD τ).loc main_arg5))
      ∧ r.2.mem ((c.tc : Thread nD τ).loc main_v15) = repeated (m ((c.tc : Thread nD τ).loc main_arg6))
      ∧ r.2.mem ((c.tc : Thread nD τ).loc main_v11) = firstFive ((dats m 0 c).arrAt 5 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine θ_run_mono (θ_run_and (run_main m ρ) (unchanged m ρ)) fun r h c => ?_
  have rest : ∀ b, b ∈ Pipeline.restRefs sig spec0 → _ := fun b hb => (h.1 c).2 b hb
  refine ⟨(rest main_v13 (Pipeline.mem_restRefs_of main_v13 (by decide) (by decide))).trans ?_,
    (rest main_v15 (Pipeline.mem_restRefs_of main_v15 (by decide) (by decide))).trans ?_,
    (rest main_v11 (Pipeline.mem_restRefs_of main_v11 (by decide) (by decide))).trans ?_, h.2 c⟩
  · unfold Pipeline.afterTail₀
    generalize hZ : Pipeline.withArrays (cfgs 0).spec c (V0 m c) _ = Z
    have e : Z (Proc.devRef .tc main_arg5) = m ((c.tc : Thread nD τ).loc main_arg5) := by
      rw [← hZ, Pipeline.withArrays_of_ne _ c (V0 m c) _ main_arg5 (by exact (by decide : ∀ w, Pipeline.arrRef spec0 w ≠ main_arg5))]
      exact V_main_arg5 m c
    after_reads_simp
    rw [e]; rfl
  · unfold Pipeline.afterTail₀
    generalize hZ : Pipeline.withArrays (cfgs 0).spec c (V0 m c) _ = Z
    have e : Z (Proc.devRef .tc main_arg6) = m ((c.tc : Thread nD τ).loc main_arg6) := by
      rw [← hZ, Pipeline.withArrays_of_ne _ c (V0 m c) _ main_arg6 (by exact (by decide : ∀ w, Pipeline.arrRef spec0 w ≠ main_arg6))]
      exact V_main_arg6 m c
    after_reads_simp
    rw [e]; rfl
  · unfold Pipeline.afterTail₀
    generalize hZ : Pipeline.withArrays (cfgs 0).spec c (V0 m c) _ = Z
    have e : Z (Proc.devRef .tc main_v10) = (dats m 0 c).arrAt 5 (cfgs 0).N := by
      rw [← hZ]
      exact Pipeline.withArrays_arr _ (by exact (by decide : Function.Injective (Pipeline.arrRef spec0))) c (V0 m c) _ 5
    after_reads_simp
    rw [e]; rfl

end Cert.KernelIdeal.Value

end
-- ==== Proof.RefTerm.lean ====
/-
  The reference's computation, stage by stage, as functions of whole arrays: the padded features, the nine shifted
  products of the convolution, the hidden layer, the logits, the scores, the hundred best pixels and what is read there.
-/
module

public import proofs.«01_k».proof.Proof.Gen.ReferenceIdeal

@[expose] public section

noncomputable section

namespace Cert.ReferenceIdeal.Stage

open Cert.ReferenceIdeal Cert.ReferenceIdeal.Gen Idealize.ShloMosaic

variable {F : FTy → Type} [FloatOps F]

/-- The features with one row and one column of zeros on each side. -/
def padded (X : FVec F S4x768x32x32 .f32) : FVec F S4x768x34x34 .f32 :=
  pad S4x768x34x34 ![0, 0, 1, 1] ![0, 0, 1, 1] ![0, 0, 0, 0] X (sitofp .f32 (constantI S_ 32 0#32))
    pads_S4x768x32x32_S4x768x34x34_000_000_110_110 h_S_

/-- One tap of the convolution: the window shifted by `o`, contracted over the channels with the weights at `o`. -/
def tap (P : FVec F S4x768x34x34 .f32) (W : FVec F S768x768x3x3 .f32) (o : Fin 4 → ℕ)
    (hP : S4x768x34x34.Slices o S4x768x32x32) (hW : S768x768x3x3.Slices o S768x768x1x1) : FVec F S4x768x32x32 .f32 :=
  transpose S4x768x32x32 [1, 0, 2, 3]
    (Host.dotGeneral dot_S768x768_S4x768x32x32_S768x4x32x32_1_1_0_023_n_n none
      (shapeCast _ (extractStridedSlice S768x768x1x1 o W hW) shapeCasts_S768x768x1x1_S768x768)
      (extractStridedSlice S4x768x32x32 o P hP))
    transposes_S768x4x32x32_S4x768x32x32_1_0_2_3

/-- The convolution without its bias: zero and the nine taps, added in row order. -/
def conv (P : FVec F S4x768x34x34 .f32) (W : FVec F S768x768x3x3 .f32) : FVec F S4x768x32x32 .f32 :=
  addf (addf (addf (addf (addf (addf (addf (addf (addf
    (broadcastInDim S4x768x32x32 ![] bcast_S_S4x768x32x32 (constant S_ .f32 0x00000000#32))
    (tap P W ![0, 0, 0, 0] slices_S4x768x34x34_S4x768x32x32_0_0_0_0 slices_S768x768x3x3_S768x768x1x1_0_0_0_0))
    (tap P W ![0, 0, 0, 1] slices_S4x768x34x34_S4x768x32x32_0_0_0_1 slices_S768x768x3x3_S768x768x1x1_0_0_0_1))
    (tap P W ![0, 0, 0, 2] slices_S4x768x34x34_S4x768x32x32_0_0_0_2 slices_S768x768x3x3_S768x768x1x1_0_0_0_2))
    (tap P W ![0, 0, 1, 0] slices_S4x768x34x34_S4x768x32x32_0_0_1_0 slices_S768x768x3x3_S768x768x1x1_0_0_1_0))
    (tap P W ![0, 0, 1, 1] slices_S4x768x34x34_S4x768x32x32_0_0_1_1 slices_S768x768x3x3_S768x768x1x1_0_0_1_1))
    (tap P W ![0, 0, 1, 2] slices_S4x768x34x34_S4x768x32x32_0_0_1_2 slices_S768x768x3x3_S768x768x1x1_0_0_1_2))
    (tap P W ![0, 0, 2, 0] slices_S4x768x34x34_S4x768x32x32_0_0_2_0 slices_S768x768x3x3_S768x768x1x1_0_0_2_0))
    (tap P W ![0, 0, 2, 1] slices_S4x768x34x34_S4x768x32x32_0_0_2_1 slices_S768x768x3x3_S768x768x1x1_0_0_2_1))
    (tap P W ![0, 0, 2, 2] slices_S4x768x34x34_S4x768x32x32_0_0_2_2 slices_S768x768x3x3_S768x768x1x1_0_0_2_2)

/-- The hidden layer: the convolution plus its bias, cut off below zero. -/
def hidden (C : FVec F S4x768x32x32 .f32) (b1 : FVec F S768 .f32) : FVec F S4x768x32x32 .f32 :=
  maximumf (addf C (broadcastInDim S4x768x32x32 ![0, 1, 2, 3] bcast_S1x768x1x1_S4x768x32x32_0_1_2_3
      (broadcastInDim S1x768x1x1 ![1] bcast_S768_S1x768x1x1_1 b1)))
    (broadcastInDim S4x768x32x32 ![] bcast_S_S4x768x32x32 (constant S_ .f32 0x00000000#32))

/-- The logits, one row of five per pixel. -/
def logits (H : FVec F S4x768x32x32 .f32) (W2 : FVec F S5x768x1x1 .f32) (b2 : FVec F S5 .f32) : FVec F S4x1024x5 .f32 :=
  shapeCast _ (transpose S4x32x32x5 [0, 2, 3, 1]
    (addf (transpose S4x5x32x32 [1, 0, 2, 3]
        (Host.dotGeneral dot_S5x768_S4x768x32x32_S5x4x32x32_1_1_0_023_n_n none
          (shapeCast _ W2 shapeCasts_S5x768x1x1_S5x768) H)
        transposes_S5x4x32x32_S4x5x32x32_1_0_2_3)
      (broadcastInDim S4x5x32x32 ![0, 1, 2, 3] bcast_S1x5x1x1_S4x5x32x32_0_1_2_3
        (broadcastInDim S1x5x1x1 ![1] bcast_S5_S1x5x1x1_1 b2)))
    transposes_S4x5x32x32_S4x32x32x5_0_2_3_1) shapeCasts_S4x32x32x5_S4x1024x5

/-- The scores: one over one plus the exponential of the negated logit. -/
def scores (L : FVec F S4x1024x5 .f32) : FVec F S4x1024x5 .f32 :=
  Host.divf (broadcastInDim S4x1024x5 ![] bcast_S_S4x1024x5 (constant S_ .f32 0x3F800000#32))
    (addf (broadcastInDim S4x1024x5 ![] bcast_S_S4x1024x5 (constant S_ .f32 0x3F800000#32)) (Host.exp (Host.negf L)))

/-- The column of the scores by which pixels are chosen. -/
def keys (sc : FVec F S4x1024x5 .f32) : FVec F S4x1024 .f32 :=
  shapeCast _ (extractStridedSlice S4x1024x1 ![0, 0, 4] sc slices_S4x1024x5_S4x1024x1_0_0_4) shapeCasts_S4x1024x1_S4x1024

/-- The hundred best keys of each batch, and their pixels. -/
def best (k : FVec F S4x1024 .f32) : FVec F S4x100 .f32 × IVec S4x100 32 :=
  Host.topK S4x100 1 (FloatOps.cmpfTotal .gt) k sliceFits_S4x1024_S4x100

/-- The chosen pixels as a column. -/
def column (i : IVec S4x100 32) : IVec S4x100x1 32 := broadcastInDim S4x100x1 ![0, 1] bcast_S4x100_S4x100x1_0_1 i

/-- A negative pixel number counts from the end. -/
def wrapped (i : IVec S4x100x1 32) : IVec S4x100x1 32 :=
  select (cmpi .slt i (broadcastInDim S4x100x1 ![] bcast_S_S4x100x1 (constantI S_ 32 0#32)))
    (addi i (broadcastInDim S4x100x1 ![] bcast_S_S4x100x1 (constantI S_ 32 1024#32))) i

/-- Whether a pixel number lies in range. -/
def inRange (i : IVec S4x100x1 32) : IVec S4x100 1 :=
  Host.reduce IntOp.andi
    (andi (cmpi .sge i (broadcastInDim S4x100x1 ![] bcast_S_S4x100x1 (constantI S_ 32 0#32)))
      (cmpi .sle i (broadcastInDim S4x100x1 ![0, 1, 2] bcast_S1x1x1_S4x100x1_0_1_2
        (broadcastInDim S1x1x1 ![2] bcast_S1_S1x1x1_2 (constantI S1 32 1023#32)))))
    (constantI S_ 1 1#1) reducesTo_S4x100x1_S4x100_d2 h_S_

/-- The four remaining scores at the chosen pixels. -/
def boxes (sc : FVec F S4x1024x5 .f32) (i : IVec S4x100x1 32) : FVec F S4x100x4 .f32 :=
  select (broadcastInDim S4x100x4 ![0, 1] bcast_S4x100_S4x100x4_0_1 (inRange i))
    (Host.gather gather_S4x1024x4_S4x100x1_S4x100x4_2_1_0_0_1_2_114
      (extractStridedSlice S4x1024x4 ![0, 0, 0] sc slices_S4x1024x5_S4x1024x4_0_0_0) i)
    (broadcastInDim S4x100x4 ![] bcast_S_S4x100x4 (constant S_ .f32 0x7FC00000#32))

/-- Four columns and one column side by side. -/
def joined (a : FVec F S4x100x4 .f32) (b : FVec F S4x100x1 .f32) : FVec F S4x100x5 .f32 :=
  concatenate S4x100x5 2 [⟨S4x100x4, a⟩, ⟨S4x100x1, b⟩] concatenates_S4x100x4_S4x100x1_S4x100x5_d2

/-- The last result: at each chosen pixel the four scores and the key. -/
def chosen (sc : FVec F S4x1024x5 .f32) : FVec F S4x100x5 .f32 :=
  joined (boxes sc (wrapped (column (best (keys sc)).2)))
    (broadcastInDim S4x100x1 ![0, 1] bcast_S4x100_S4x100x1_0_1 (best (keys sc)).1)

/-- The reference's last result as a function of its arguments. -/
def result (X : FVec F S4x768x32x32 .f32) (W : FVec F S768x768x3x3 .f32) (b1 : FVec F S768 .f32)
    (W2 : FVec F S5x768x1x1 .f32) (b2 : FVec F S5 .f32) : FVec F S4x100x5 .f32 :=
  chosen (scores (logits (hidden (conv (padded X) W) b1) W2 b2))

/-- A table of queries repeated for each batch. -/
def repeated (T : FVec F S100x768 .f32) : FVec F S4x100x768 .f32 :=
  broadcastInDim S4x100x768 ![0, 1, 2] bcast_S1x100x768_S4x100x768_0_1_2
    (broadcastInDim S1x100x768 ![1, 2] bcast_S100x768_S1x100x768_1_2 T)

end Cert.ReferenceIdeal.Stage

end
-- ==== Proof.RefRun.lean ====
/-
  The reference's run: it ends with its results at the stages' composition and its arguments unchanged.
-/
module

public import proofs.«01_k».proof.Proof.RefTerm
public import Idealize.ShloMosaic.Lib.Claim
public import Idealize.ShloMosaic.Lib.StableHlo.RunRead
public import Idealize.ShloMosaic.Lib.Tactic.CleanTypes

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
/-- From any memory with zero counters every execution of the reference terminates, its results are the stages' values of
    its arguments, and its arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = repeated (m ((c.tc : Thread nD τ).loc main_arg5))
      ∧ r.2.mem ((c.tc : Thread nD τ).loc main_v82) = repeated (m ((c.tc : Thread nD τ).loc main_arg6))
      ∧ r.2.mem ((c.tc : Thread nD τ).loc main_v84)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine θ_run_mono (run_hlo _ _ (by hlo_seq) (by decide) (by decide) (by simp)
      (by intro _ h; (repeat (cases h with | head => rfl | tail _ h => ?_)); exact nomatch h) _ _) fun r h c => ?_
  refine ⟨(h c main_v80).trans ?_, (h c main_v82).trans ?_, (h c main_v84).trans ?_, (h c main_arg0).trans ?_,
    (h c main_arg1).trans ?_, (h c main_arg2).trans ?_, (h c main_arg3).trans ?_, (h c main_arg4).trans ?_,
    (h c main_arg5).trans ?_, (h c main_arg6).trans ?_⟩ <;> clear h
  · after_reads_simp; rfl
  · after_reads_simp; rfl
  · after_reads_simp
    refine congrArg₂ joined ?_ ?_
    · after_reads_simp
      simp -implicitDefEqProofs only [TRef.toBuf, TRef.ofBuf, cast_cast, cast_eq]
      clean_types
      simp only [launchContents_devRef, boxes, inRange, wrapped, column, best, keys, scores, logits, hidden, conv, tap, padded]
      with_reducible_and_instances rfl
    · after_reads_simp
      simp -implicitDefEqProofs only [TRef.toBuf, TRef.ofBuf, cast_cast, cast_eq]
      clean_types
      simp only [launchContents_devRef, boxes, inRange, wrapped, column, best, keys, scores, logits, hidden, conv, tap, padded]
      with_reducible_and_instances rfl
  all_goals after_reads_simp

end Cert.ReferenceIdeal.Stage

end
-- ==== Proof.Rank.lean ====
/-
  Ranks and the stable sort. A position's RANK is the number of positions that beat it: those of a greater key, and those
  of an equal key that come earlier. The stable sort by "greater key first" puts at place `r` the one position of rank `r`.
-/
module

public import Idealize.ShloMosaic.Lib.SortPrefix
public import Idealize.ShloMosaic.PureOps.Ideal

@[expose] public section

namespace Cert.Ranked

open Idealize.ShloMosaic

variable {n : ℕ} {κ : Type} [LinearOrder κ]

/-- Position `q` beats position `p`: its key is greater, or the keys are equal and it comes earlier. -/
def Beats (s : Fin n → κ) (q p : Fin n) : Prop := s p < s q ∨ (s q = s p ∧ q < p)

instance (s : Fin n → κ) (q p : Fin n) : Decidable (Beats s q p) := by unfold Beats; infer_instance

/-- The number of positions that beat `p`. -/
def rank (s : Fin n → κ) (p : Fin n) : ℕ := (Finset.univ.filter fun q => Beats s q p).card

/-- The position a stable sort, greater key first, puts at place `r`. -/
def place (s : Fin n → κ) (r : Fin n) : Fin n := sortedFrom (fun k k' => decide (s k' < s k)) r

/-- A strictly increasing function of the keys changes no position's rival. -/
theorem beats_strictMono {κ' : Type} [LinearOrder κ'] {f : κ → κ'} (hf : StrictMono f) (s : Fin n → κ) (q p : Fin n) :
    Beats (fun k => f (s k)) q p ↔ Beats s q p := by
  unfold Beats
  rw [hf.lt_iff_lt, hf.injective.eq_iff]

/-- A strictly increasing function of the keys leaves the sort's places as they are. -/
theorem place_strictMono {κ' : Type} [LinearOrder κ'] {f : κ → κ'} (hf : StrictMono f) (s : Fin n → κ) (r : Fin n) :
    place (fun k => f (s k)) r = place s r := by
  unfold place
  simp only [hf.lt_iff_lt]

/-- A rank is below the number of positions. -/
theorem rank_lt (s : Fin n → κ) (p : Fin n) : rank s p < n := by
  have h : (Finset.univ.filter fun q => Beats s q p) ⊂ Finset.univ := by
    refine Finset.ssubset_univ_iff.mpr fun e => ?_
    have := e ▸ Finset.mem_univ p
    rw [Finset.mem_filter] at this
    rcases this.2 with h | ⟨_, h⟩ <;> exact absurd h (lt_irrefl _)
  simpa [rank] using Finset.card_lt_card h

/-- On a list in position order the stable sort only ever asks whether a later position goes before an earlier one. -/
theorem stableSort_congr_later (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- "Beats" as a Boolean, in the form of the strict total order by key and then position. -/
def beatsB (s : Fin n → κ) (q p : Fin n) : Bool :=
  decide (s p < s q) || (decide (s q = s p) && decide (q < p))

theorem beatsB_iff (s : Fin n → κ) (q p : Fin n) : beatsB s q p = true ↔ Beats s q p := by
  simp [beatsB, Beats]

/-- "Beats" is a strict total order of the positions. -/
theorem beatsB_total (s : Fin n → κ) : StrictTotalBefore (beatsB s) :=
  StrictTotalBefore.of_key_then_position (fun a b : κ => decide (b < a)) s (fun a => by simp)
    (fun a b c hab hbc => by
      rw [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

/-- The stable sort by the key alone is the sort by the strict total order. -/
theorem place_eq (s : Fin n → κ) (r : Fin n) : place s r = sortedFrom (beatsB s) r := by
  have e : sortPositions n (fun k k' => decide (s k' < s k)) = sortPositions n (beatsB s) := by
    refine stableSort_congr_later _ _ _ (List.pairwise_lt_finRange n) fun a b hab => ?_
    simp [beatsB, not_lt.mpr hab.le]
  unfold place sortedFrom
  rw [List.get_of_eq e]
  rfl

/-- The sort's places are all different. -/
theorem place_injective (s : Fin n → κ) : Function.Injective (place s) := sortedFrom_injective _

/-- Every position has a place. -/
theorem place_surjective (s : Fin n → κ) : Function.Surjective (place s) := sortedFrom_surjective _

/-- Of two places, the earlier one's position beats the later one's. -/
theorem place_beats (s : Fin n → κ) {i j : Fin n} (hij : i < j) : Beats s (place s i) (place s j) := by
  have hB := beatsB_total s
  have h := sortedFrom_noInversion (beatsB s) (beatsB s) (fun a b hab => hB.asymm a b hab) (fun _ _ h => h) hB.negTrans i j hij
  rw [← place_eq, ← place_eq] at h
  have hne : place s i ≠ place s j := fun e => hij.ne (place_injective s e)
  rcases hB.total _ _ hne with h' | h'
  · exact (beatsB_iff _ _ _).mp h'
  · rw [h] at h'; exact absurd h' (by decide)

/-- Place `i`'s position beats place `j`'s exactly when `i` is earlier. -/
theorem place_beats_iff (s : Fin n → κ) (i j : Fin n) : Beats s (place s i) (place s j) ↔ i < j := by
  refine ⟨fun h => ?_, place_beats s⟩
  have hB := beatsB_total s
  have h1 := (beatsB_iff _ _ _).mpr h
  rcases lt_trichotomy i j with h' | h' | h'
  · exact h'
  · subst h'; rw [hB.irrefl] at h1; exact absurd h1 (by decide)
  · rw [hB.asymm _ _ ((beatsB_iff _ _ _).mpr (place_beats s h'))] at h1; exact absurd h1 (by decide)

/-- The position at place `r` has rank `r`. -/
theorem rank_place (s : Fin n → κ) (r : Fin n) : rank s (place s r) = r := by
  have e : (Finset.univ.filter fun q => Beats s q (place s r)) = (Finset.Iio r).image (place s) := by
    ext q
    obtain ⟨i, rfl⟩ := place_surjective s q
    simp [place_beats_iff, (place_injective s).eq_iff]
  rw [rank, e, Finset.card_image_of_injective _ (place_injective s), Fin.card_Iio]

/-- A position has rank `r` exactly when it is the one at place `r`. -/
theorem rank_eq_iff (s : Fin n → κ) (p r : Fin n) : rank s p = r ↔ p = place s r := by
  obtain ⟨i, rfl⟩ := place_surjective s p
  rw [rank_place, (place_injective s).eq_iff, Fin.val_inj]

/-- A sum over the positions of "one at rank `r`, zero elsewhere" times a value is the value at place `r`: on the extended
    reals zero times anything is zero. -/
theorem sum_oneHot (s : Fin n → κ) (r : Fin n) (v : Fin n → EReal) :
    ∑ p, (if rank s p = r then (1 : EReal) else 0) * v p = v (place s r) := by
  rw [Finset.sum_eq_single (place s r)]
  · rw [if_pos (rank_place s r), one_mul]
  · intro p _ hp
    rw [if_neg (fun h => hp ((rank_eq_iff s p r).mp h)), zero_mul]
  · intro h; exact absurd (Finset.mem_univ _) h

end Cert.Ranked

end
-- ==== Proof.Logit.lean ====
/-
  One logit of one pixel as a plain formula over extended reals: the nine taps of a three by three convolution, each a
  sum over the channels, then a bias, a cut at zero, a second sum over the hidden channels and a second bias. And the
  formula both programs' last result follows: the logistic of the logits at the pixels in the order of the last column.
-/
module

public import proofs.«01_k».proof.Proof.Rank

@[expose] public section

noncomputable section

namespace Cert.Ranked

/-- One tap at pixel `p` and hidden channel `k`: the padded features `P` shifted by `u` rows and `v` columns, times
    the slab `t` of the weights, summed over the channels. -/
def tapAt (P : Fin 34 → Fin 34 → Fin 768 → EReal) (W : Fin 9 → Fin 768 → Fin 768 → EReal) (p : Fin 1024) (k : Fin 768)
    (u v : Fin 3) (t : Fin 9) : EReal :=
  ∑ c, P ⟨u + p / 32, by omega⟩ ⟨v + p % 32, by omega⟩ c * W t c k

/-- The hidden channel `k` at pixel `p`: the nine taps, the bias, the cut at zero. -/
def hiddenAt (P : Fin 34 → Fin 34 → Fin 768 → EReal) (W : Fin 9 → Fin 768 → Fin 768 → EReal) (b1 : Fin 768 → EReal)
    (p : Fin 1024) (k : Fin 768) : EReal :=
  max (tapAt P W p k 0 0 0 + tapAt P W p k 0 1 1 + tapAt P W p k 0 2 2 + tapAt P W p k 1 0 3 + tapAt P W p k 1 1 4
    + tapAt P W p k 1 2 5 + tapAt P W p k 2 0 6 + tapAt P W p k 2 1 7 + tapAt P W p k 2 2 8 + b1 k) 0

/-- The logit at pixel `p` with the second layer's column `w2` and bias `b2`. -/
def logitAt (P : Fin 34 → Fin 34 → Fin 768 → EReal) (W : Fin 9 → Fin 768 → Fin 768 → EReal) (b1 w2 : Fin 768 → EReal)
    (b2 : EReal) (p : Fin 1024) : EReal :=
  ∑ k, hiddenAt P W b1 p k * w2 k + b2

/-- The features with a border of zeros, the channels last. -/
def bordered (X : Fin 768 → Fin 32 → Fin 32 → EReal) (u v : Fin 34) (c : Fin 768) : EReal :=
  if h : (1 ≤ (u : ℕ) ∧ (u : ℕ) - 1 < 32) ∧ 1 ≤ (v : ℕ) ∧ (v : ℕ) - 1 < 32 then
    X c ⟨u - 1, h.1.2⟩ ⟨v - 1, h.2.2⟩
  else Idealize.ShloMosaic.FloatOps.sitofp (F := Idealize.ShloMosaic.Ideal) .f32 0#32

/-- The five logits of a pixel from the arguments of one batch. -/
def logitOf (X : Fin 768 → Fin 32 → Fin 32 → EReal) (W : Fin 768 → Fin 768 → Fin 3 → Fin 3 → EReal)
    (b1 : Fin 768 → EReal) (W2 : Fin 5 → Fin 768 → EReal) (b2 : Fin 5 → EReal) (o : Fin 5) (p : Fin 1024) : EReal :=
  logitAt (bordered X) (fun t c k => W k c ⟨t / 3, by omega⟩ ⟨t % 3, by omega⟩) b1 (W2 o) (b2 o) p

/-- Place `r` and column `o` of one batch's last result: the logistic of the logit of the pixel that the stable sort of
    the last column's logits, the greatest first, puts at place `r`. -/
def pick (L : Fin 5 → Fin 1024 → EReal) (r : Fin 100) (o : Fin 5) : EReal :=
  Idealize.ShloMosaic.Ideal.logistic (L o (place (L 4) ⟨r, by omega⟩))

end Cert.Ranked

end
-- ==== Proof.Count.lean ====
/-
  The rank as the kernel counts it: the positions are split in four runs of 256, each run's count is a sum of 32-bit
  words that are zero or one, and the four counts are added as words.
-/
module

public import proofs.«01_k».proof.Proof.Rank
public import Idealize.ShloMosaic.Lib.IndicatorCount
public import Idealize.ShloMosaic.Lib.Pointwise

@[expose] public section

noncomputable section

namespace Cert.Ranked

open Idealize.ShloMosaic

/-- The bit that says whether the position `a + j` beats `p`, with positions compared as 32-bit words. -/
def beatBit (s : Fin 1024 → EReal) (p : Fin 1024) (a : ℕ) (ha : a + 256 ≤ 1024) (j : Fin 256) : BitVec 1 :=
  IntOp.ori (BitVec.ofBool (decide (s p < s ⟨a + j, by omega⟩)))
    (IntOp.andi (BitVec.ofBool (decide (s ⟨a + j, by omega⟩ = s p)))
      (IntOp.cmpi .slt (IntOp.addi (BitVec.ofNat 32 j) (BitVec.ofNat 32 a)) (BitVec.ofNat 32 p)))

/-- A number below `2 ^ 31`, as a word read signed, is itself. -/
theorem toInt_word (k : ℕ) (hk : k < 2 ^ 31) : (BitVec.ofNat 32 k).toInt = (k : ℤ) := by
  have e : (BitVec.ofNat 32 k).toNat = k := by rw [BitVec.toNat_ofNat]; exact Nat.mod_eq_of_lt (by omega)
  rw [BitVec.toInt_eq_toNat_of_lt (by omega), e]

/-- Comparing two positions as signed words is comparing the positions. -/
theorem slt_positions (p : Fin 1024) (a : ℕ) (ha : a + 256 ≤ 1024) (j : Fin 256) :
    IntOp.cmpi .slt (IntOp.addi (BitVec.ofNat 32 j) (BitVec.ofNat 32 a)) (BitVec.ofNat 32 p)
      = BitVec.ofBool (decide (a + j < (p : ℕ))) := by
  show BitVec.ofBool ((BitVec.ofNat 32 j + BitVec.ofNat 32 a).slt (BitVec.ofNat 32 p)) = _
  congr 1
  rw [← BitVec.ofNat_add, BitVec.slt_eq_decide]
  rw [toInt_word _ (by omega), toInt_word _ (by omega)]
  exact decide_eq_decide.2 (by omega)

/-- The bit is one exactly when the position beats `p`. -/
theorem beatBit_eq_one (s : Fin 1024 → EReal) (p : Fin 1024) (a : ℕ) (ha : a + 256 ≤ 1024) (j : Fin 256) :
    beatBit s p a ha j = 1#1 ↔ Beats s ⟨a + j, by omega⟩ p := by
  unfold beatBit Beats
  rw [slt_positions p a ha j, Fin.lt_def]
  by_cases h1 : s p < s ⟨a + j, by omega⟩ <;> by_cases h2 : s ⟨a + j, by omega⟩ = s p <;>
    by_cases h3 : a + j < (p : ℕ) <;> simp [h1, h2, h3, IntOp.ori, IntOp.andi]

/-- One run's count. -/
theorem run_count (s : Fin 1024 → EReal) (p : Fin 1024) (a : ℕ) (ha : a + 256 ≤ 1024) :
    Finset.fold IntOp.addi (0#32) (fun j => BitVec.setWidth 32 (beatBit s p a ha j)) Finset.univ
      = BitVec.ofNat 32 (∑ j : Fin 256, if Beats s ⟨a + j, by omega⟩ p then 1 else 0) := by
  rw [IndicatorCount.fold_addi_setWidth_eq_card, ← Finset.card_filter]
  exact congrArg (fun S : Finset (Fin 256) => BitVec.ofNat 32 S.card)
    (Finset.filter_congr fun j _ => beatBit_eq_one s p a ha j)

/-- The rank is the sum of the four runs' counts. -/
theorem rank_runs (s : Fin 1024 → EReal) (p : Fin 1024) :
    rank s p = (∑ j : Fin 256, if Beats s ⟨0 + j, by omega⟩ p then 1 else 0)
      + (∑ j : Fin 256, if Beats s ⟨256 + j, by omega⟩ p then 1 else 0)
      + (∑ j : Fin 256, if Beats s ⟨512 + j, by omega⟩ p then 1 else 0)
      + (∑ j : Fin 256, if Beats s ⟨768 + j, by omega⟩ p then 1 else 0) := by
  unfold rank
  rw [Finset.card_filter]
  exact (Fin.sum_univ_tiles 4 256 rfl fun q : Fin 1024 => if Beats s q p then 1 else 0).trans (Fin.sum_univ_four _)

/-- The four runs' words added up are the rank as a word. -/
theorem rank_word (s : Fin 1024 → EReal) (p : Fin 1024) :
    IntOp.addi (IntOp.addi (IntOp.addi (IntOp.addi (0#32)
        (Finset.fold IntOp.addi (0#32) (fun j => BitVec.setWidth 32 (beatBit s p 0 (by omega) j)) Finset.univ))
        (Finset.fold IntOp.addi (0#32) (fun j => BitVec.setWidth 32 (beatBit s p 256 (by omega) j)) Finset.univ))
        (Finset.fold IntOp.addi (0#32) (fun j => BitVec.setWidth 32 (beatBit s p 512 (by omega) j)) Finset.univ))
        (Finset.fold IntOp.addi (0#32) (fun j => BitVec.setWidth 32 (beatBit s p 768 (by omega) j)) Finset.univ)
      = BitVec.ofNat 32 (rank s p) := by
  rw [run_count, run_count, run_count, run_count, rank_runs, BitVec.ofNat_add, BitVec.ofNat_add, BitVec.ofNat_add]
  simp only [IntOp.addi, BitVec.zero_add]

/-- The word comparison of the rank with `r`, widened and read as a number, is one at rank `r` and zero elsewhere. -/
theorem hot (s : Fin 1024 → EReal) (p : Fin 1024) (r : Fin 100) :
    (FloatOps.sitofp .f32 (BitVec.setWidth 32
        (IntOp.cmpi .eq (BitVec.ofNat 32 (rank s p)) (BitVec.ofNat 32 r))) : Ideal .f32)
      = if rank s p = r then (1 : EReal) else 0 := by
  have hr := rank_lt s p
  have e : IntOp.cmpi .eq (BitVec.ofNat 32 (rank s p)) (BitVec.ofNat 32 r)
      = BitVec.ofBool (decide (rank s p = r)) := by
    show BitVec.ofBool (_ == _) = _
    congr 1
    rw [Bool.eq_iff_iff, beq_iff_eq, decide_eq_true_iff]
    refine ⟨fun h => ?_, fun h => by rw [h]⟩
    have := congrArg BitVec.toNat h
    rw [BitVec.toNat_ofNat, BitVec.toNat_ofNat, Nat.mod_eq_of_lt (by omega), Nat.mod_eq_of_lt (by omega)] at this
    exact this
  rw [e]
  by_cases h : rank s p = r
  · rw [if_pos h, decide_eq_true h]
    show (((BitVec.setWidth 32 (BitVec.ofBool true)).toInt : ℝ) : EReal) = 1
    have : (BitVec.setWidth 32 (BitVec.ofBool true)).toInt = 1 := by decide
    rw [this]; norm_num
  · rw [if_neg h, decide_eq_false h]
    show (((BitVec.setWidth 32 (BitVec.ofBool false)).toInt : ℝ) : EReal) = 0
    have : (BitVec.setWidth 32 (BitVec.ofBool false)).toInt = 0 := by decide
    rw [this]; norm_num

end Cert.Ranked

end
-- ==== Proof.KernelLogits.lean ====
/-
  The kernel's block of logits, read at one pixel and one column, is the plain formula of one logit; and what the
  region's operand arrays hold is what the reference's stages hold.
-/
module

public import proofs.«01_k».proof.Proof.KernelRun
public import proofs.«01_k».proof.Proof.Logit
public import proofs.«01_k».proof.Proof.Count
public import Idealize.ShloMosaic.Lib.Pointwise

@[expose] public section

set_option maxRecDepth 16384

noncomputable section

namespace Cert.KernelIdeal.Value

open Cert.KernelIdeal Cert.KernelIdeal.Gen Cert.Ranked Idealize.ShloMosaic Idealize.ShloMosaic.TcCoe Idealize.SL.Sem

/-- The block of logits, as the body computes it from its five operand blocks. -/
def block (x0 : FVec Ideal S1x34x34x768 .f32) (x1 : FVec Ideal S9x768x768 .f32) (x2 : FVec Ideal S1x768 .f32)
    (x3 : FVec Ideal S768x128 .f32) (x4 : FVec Ideal S1x128 .f32) : FVec Ideal S1024x128 .f32 :=
  k0_pay10 (k0_pay15 x0 x1 x2 x3 x4) x4

/-- The block of logits at pixel `p` and column `o` is one logit. -/
theorem block_apply (x0 : FVec Ideal S1x34x34x768 .f32) (x1 : FVec Ideal S9x768x768 .f32) (x2 : FVec Ideal S1x768 .f32)
    (x3 : FVec Ideal S768x128 .f32) (x4 : FVec Ideal S1x128 .f32) (p : Fin 1024) (o : Fin 128) :
    block x0 x1 x2 x3 x4 (ix2 p o)
      = logitAt (fun u v c => x0 (ix4 0 u v c)) (fun t c k => x1 (ix3 t c k)) (fun k => x2 (ix2 0 k))
          (fun k => x3 (ix2 k o)) (x4 (ix2 0 o)) p := by
  pointwise [block, k0_pay15, k0_pay10, k0_pay9, k0_pay8, k0_pay7, k0_pay6, k0_pay5, k0_pay4, k0_pay3, k0_pay2]
  simp only [logitAt, hiddenAt, tapAt, Fin.val_zero, Fin.val_one, Fin.val_two, Nat.zero_add]

/-- The region's features at batch `b` are the features with a border of zeros, whichever axis the channels are on. -/
theorem featPadded_apply (X : FVec Ideal S4x768x32x32 .f32) (b : Fin 4) (u v : Fin 34) (c : Fin 768) :
    featPadded X (ix4 b u v c)
      = bordered (fun k y x => X (ix4 b k y x)) u v c := by
  pointwise [featPadded, bordered]

/-- The slab `t` of the weights is the tap in row `t / 3` and column `t % 3`. -/
theorem weightSlabs_apply (W : FVec Ideal S768x768x3x3 .f32) (t : Fin 9) (c k : Fin 768) :
    weightSlabs W (ix3 t c k) = W (ix4 k c ⟨t / 3, by omega⟩ ⟨t % 3, by omega⟩) := by
  pointwise [weightSlabs]

/-- The row of the first bias. -/
theorem biasRow_apply (b1 : FVec Ideal S768 .f32) (k : Fin 768) : biasRow b1 (ix2 0 k) = b1 (ix1 k) := by
  pointwise [biasRow]

/-- The second layer's weights in the first five columns. -/
theorem headPadded_apply (W2 : FVec Ideal S5x768x1x1 .f32) (k : Fin 768) (o : Fin 5) :
    headPadded W2 (ix2 k (⟨o, by omega⟩ : Fin 128)) = W2 (ix4 o k 0 0) := by
  pointwise [headPadded]

/-- The second bias in the first five columns. -/
theorem headBias_apply (b2 : FVec Ideal S5 .f32) (o : Fin 5) :
    headBias b2 (ix2 0 (⟨o, by omega⟩ : Fin 128)) = b2 (ix1 o) := by
  pointwise [headBias]

/-- What the body stores, from its block of logits `L` and its last operand block. -/
theorem store_apply (a : FVec Ideal S1024x128 .f32) (b : FVec Ideal S1x128 .f32) (r : Fin 100) (o : Fin 128) :
    k0_pay1 (k0_pay10 a b) (k0_pay11 a b) (iota .tc S256x1024 32 [1] iota_S256x1024_d1_w32)
        (iota .tc S256x1024 32 [0] iota_S256x1024_d0_w32) (k0_pay12 a b) (k0_pay13 a b) (k0_pay14 a b) (ix3 0 r o)
      = Ideal.logistic (k0_pay10 a b (ix2 (place (fun p => k0_pay10 a b (ix2 p 4)) ⟨r, by omega⟩) o)) := by
  pointwise [k0_pay1, k0_pay11, k0_pay12, k0_pay13, k0_pay14]
  generalize k0_pay10 a b = L
  refine congrArg Ideal.logistic (Eq.trans (Finset.sum_congr rfl fun p _ => ?_)
    (sum_oneHot (fun p => L (ix2 p 4)) ⟨r, by omega⟩ fun p => L (ix2 p o)))
  refine congrArg (· * L (ix2 p o)) ?_
  refine Eq.trans ?_ (hot (fun p => L (ix2 p 4)) p r)
  rw [← rank_word]
  simp only [beatBit, Nat.zero_add]
  rfl

end Cert.KernelIdeal.Value

end
-- ==== Proof.KernelFinal.lean ====
/-
  The kernel program's last array: each grid point writes the block of its own batch, and the five first columns of the
  hundred rows are the logistic of the logits at the pixels in rank order.
-/
module

public import proofs.«01_k».proof.Proof.KernelLogits
public import Idealize.ShloMosaic.Lib.Pipeline.ValueKit

@[expose] public section

set_option maxRecDepth 16384

noncomputable section

namespace Cert.KernelIdeal.Value

open Cert.KernelIdeal Cert.KernelIdeal.Gen Cert.Ranked Idealize.ShloMosaic Idealize.ShloMosaic.TcCoe Idealize.SL.Sem

/-- The whole output array from the five operand arrays: batch `b`, place `r`, column `o`. -/
def ranked (A0 : FVec Ideal S4x34x34x768 .f32) (A1 : FVec Ideal S9x768x768 .f32) (A2 : FVec Ideal S1x768 .f32)
    (A3 : FVec Ideal S768x128 .f32) (A4 : FVec Ideal S1x128 .f32) : FVec Ideal S4x100x128 .f32 := fun j =>
  let L : Fin 128 → Fin 1024 → EReal := fun o => logitAt (fun u v c => A0 (ix4 (j 0) u v c))
    (fun t c k => A1 (ix3 t c k)) (fun k => A2 (ix2 0 k)) (fun k => A3 (ix2 k o)) (A4 (ix2 0 o))
  Ideal.logistic (L (j 2) (place (L 4) ⟨(j 1).val, Nat.lt_of_lt_of_le (j 1).isLt (by decide)⟩))

/-- The block that each window is at. -/
theorem blocks : ∀ t : Fin cfg0.N,
    win0_0.index t = ![t.val, 0, 0, 0] ∧ win0_1.index t = ![0, 0, 0] ∧ win0_2.index t = ![0, 0] ∧ win0_3.index t = ![0, 0] ∧
      win0_4.index t = ![0, 0] ∧ win0_5.index t = ![t.val, 0, 0] :=
  (by decide +kernel : ∀ t : Fin grid0.N, _)

variable (m : (ℓ : Loc nD τ sig) → Buf (Elt Ideal) ℓ)

/-- The first window's block at point `t` is the operand's slice at batch `t`. -/
theorem features_block (c : Dev nD) (t : Fin cfg0.N) (b : Fin 4) (hb : b.val = t.val) (u v : Fin 34) (k : Fin 768) :
    iblk m c 0 t (ix4 0 u v k) = V m c main_v1 (ix4 b u v k) := by
  blk_ext [iblk, blocks t]

/-- The second window's block is its whole operand. -/
theorem weights_block (c : Dev nD) (t : Fin cfg0.N) (j : Fin 9) (k l : Fin 768) :
    iblk m c 1 t (ix3 j k l) = V m c main_v3 (ix3 j k l) := by
  blk_ext [iblk, blocks t]

/-- The third window's block is its whole operand. -/
theorem bias_block (c : Dev nD) (t : Fin cfg0.N) (k : Fin 768) : iblk m c 2 t (ix2 0 k) = V m c main_v7 (ix2 0 k) := by
  blk_ext [iblk, blocks t]

/-- The fourth window's block is its whole operand. -/
theorem head_block (c : Dev nD) (t : Fin cfg0.N) (k : Fin 768) (o : Fin 128) :
    iblk m c 3 t (ix2 k o) = V m c main_v6 (ix2 k o) := by
  blk_ext [iblk, blocks t]

/-- The fifth window's block is its whole operand. -/
theorem headBias_block (c : Dev nD) (t : Fin cfg0.N) (o : Fin 128) :
    iblk m c 4 t (ix2 0 o) = V m c main_v9 (ix2 0 o) := by
  blk_ext [iblk, blocks t]

/-- The block of logits at point `t`, read at pixel `p` and column `o`, over the operand arrays. -/
theorem block_point (c : Dev nD) (t : Fin cfg0.N) (b : Fin 4) (hb : b.val = t.val) (p : Fin 1024) (o : Fin 128) :
    block (iblk m c 0 t) (iblk m c 1 t) (iblk m c 2 t) (iblk m c 3 t) (iblk m c 4 t) (ix2 p o)
      = logitAt (fun u v k => V m c main_v1 (ix4 b u v k)) (fun j k l => V m c main_v3 (ix3 j k l))
          (fun k => V m c main_v7 (ix2 0 k)) (fun k => V m c main_v6 (ix2 k o)) (V m c main_v9 (ix2 0 o)) p := by
  refine (block_apply _ _ _ _ _ p o).trans ?_
  simp only [features_block m c t b hb, weights_block, bias_block, head_block, headBias_block]

/-- What the body stores at point `t`: the slice of `ranked` at batch `t`. -/
theorem point (c : Dev nD) (t : Fin cfg0.N) (b : Fin 4) (hb : b.val = t.val) (r : Fin 100) (o : Fin 128) :
    k0_pay1
      (k0_pay10 (k0_pay15 (iblk m c 0 t) (iblk m c 1 t) (iblk m c 2 t) (iblk m c 3 t) (iblk m c 4 t)) (iblk m c 4 t))
      (k0_pay11 (k0_pay15 (iblk m c 0 t) (iblk m c 1 t) (iblk m c 2 t) (iblk m c 3 t) (iblk m c 4 t)) (iblk m c 4 t))
      (iota Kind.tc S256x1024 32 [1] iota_S256x1024_d1_w32) (iota Kind.tc S256x1024 32 [0] iota_S256x1024_d0_w32)
      (k0_pay12 (k0_pay15 (iblk m c 0 t) (iblk m c 1 t) (iblk m c 2 t) (iblk m c 3 t) (iblk m c 4 t)) (iblk m c 4 t))
      (k0_pay13 (k0_pay15 (iblk m c 0 t) (iblk m c 1 t) (iblk m c 2 t) (iblk m c 3 t) (iblk m c 4 t)) (iblk m c 4 t))
      (k0_pay14 (k0_pay15 (iblk m c 0 t) (iblk m c 1 t) (iblk m c 2 t) (iblk m c 3 t) (iblk m c 4 t)) (iblk m c 4 t))
      (ix3 0 r o)
    = ranked (V m c main_v1) (V m c main_v3) (V m c main_v7) (V m c main_v6) (V m c main_v9) (ix3 b r o) := by
  refine (store_apply _ _ r o).trans ?_
  refine congrArg Ideal.logistic ?_
  have e := block_point m c t b hb
  unfold block at e
  rw [e, funext fun p => e p 4]
  rfl

/-- THE OUTPUT ARRAY at the end of the region. -/
theorem final (c : Dev nD) : (dats m 0 c).arrAt 5 (cfgs 0).N
    = ranked (V m c main_v1) (V m c main_v3) (V m c main_v7) (V m c main_v6) (V m c main_v9) := by
  refine (dats m 0 c).arrAt_eq_of_covers 5 _ (by decide +kernel) fun t _ y => ?_
  blk_simp
  rw [after0_5]
  frame_out
  have hy : y = ix3 (0 : Fin 1) (y 1) (y 2) := by
    funext a
    match a with
    | ⟨0, _⟩ => exact Fin.ext (Nat.lt_one_iff.1 (y 0).isLt)
    | ⟨1, _⟩ => rfl
    | ⟨2, _⟩ => rfl
  have hj : ((View.whole main_v10).slice (win0_5.rect t)).emb y = ix3 (⟨t.val, t.isLt⟩ : Fin 4) (y 1) (y 2) := by
    blk_ext [blocks t]
  rw [hj]
  exact (congrArg _ hy).trans (point m c t ⟨t.val, t.isLt⟩ rfl (y 1) (y 2))

/-- The kernel's last result over its arguments, by the common formula. -/
theorem firstFive_pick (X : FVec Ideal S4x768x32x32 .f32) (W : FVec Ideal S768x768x3x3 .f32) (b1 : FVec Ideal S768 .f32)
    (W2 : FVec Ideal S5x768x1x1 .f32) (b2 : FVec Ideal S5 .f32) (b : Fin 4) (r : Fin 100) (o : Fin 5) :
    firstFive (ranked (featPadded X) (weightSlabs W) (biasRow b1) (headPadded W2) (headBias b2)) (ix3 b r o)
      = pick (logitOf (fun c y x => X (ix4 b c y x)) (fun k c u v => W (ix4 k c u v)) (fun k => b1 (ix1 k))
          (fun o k => W2 (ix4 o k 0 0)) (fun o => b2 (ix1 o))) r o := by
  have e (o' : Fin 5) : logitAt (fun u v c => featPadded X (ix4 b u v c)) (fun t c k => weightSlabs W (ix3 t c k))
        (fun k => biasRow b1 (ix2 0 k)) (fun k => headPadded W2 (ix2 k (⟨o', by omega⟩ : Fin 128)))
        (headBias b2 (ix2 0 (⟨o', by omega⟩ : Fin 128)))
      = logitOf (fun c y x => X (ix4 b c y x)) (fun k c u v => W (ix4 k c u v)) (fun k => b1 (ix1 k))
          (fun o k => W2 (ix4 o k 0 0)) (fun o => b2 (ix1 o)) o' := by
    simp only [featPadded_apply, weightSlabs_apply, biasRow_apply, headPadded_apply, headBias_apply]
    rfl
  pointwise [firstFive]
  unfold pick
  rw [← e o, ← e 4]
  rfl

end Cert.KernelIdeal.Value

end
-- ==== Proof.Sigmoid.lean ====
/-
  The logistic function of the extended reals is strictly increasing, so comparing scores after it is comparing the
  logits before it.
-/
module

public import Idealize.ShloMosaic.PureOps.Ideal

@[expose] public section

namespace Cert.Ranked

open Idealize.ShloMosaic

/-- At a real `r` the logistic value lies strictly between 0 and 1. -/
theorem logistic_coe_between (r : ℝ) : (0 : EReal) < Ideal.logistic r ∧ Ideal.logistic r < 1 := by
  have hp : 0 < 1 + Real.exp (-r) := by positivity
  rw [Ideal.logistic_coe, ← EReal.coe_zero, ← EReal.coe_one, EReal.coe_lt_coe_iff, EReal.coe_lt_coe_iff]
  refine ⟨inv_pos.mpr hp, inv_lt_one_of_one_lt₀ ?_⟩
  linarith [Real.exp_pos (-r)]

/-- The logistic function is strictly increasing on the extended reals. -/
theorem logistic_strictMono : StrictMono Ideal.logistic := by
  intro x y h
  induction x using EReal.rec with
  | bot =>
    induction y using EReal.rec with
    | bot => exact absurd h (lt_irrefl _)
    | coe r => rw [Ideal.logistic_bot]; exact (logistic_coe_between r).1
    | top => rw [Ideal.logistic_bot, Ideal.logistic_top]; exact zero_lt_one
  | coe q =>
    induction y using EReal.rec with
    | bot => exact absurd h not_lt_bot
    | coe r =>
      have hqr : q < r := EReal.coe_lt_coe_iff.mp h
      have hp : 0 < 1 + Real.exp (-r) := by positivity
      rw [Ideal.logistic_coe, Ideal.logistic_coe, EReal.coe_lt_coe_iff]
      refine inv_strictAnti₀ hp ?_
      have := Real.exp_lt_exp.mpr (neg_lt_neg hqr)
      linarith
    | top => rw [Ideal.logistic_top]; exact (logistic_coe_between q).2
  | top => exact absurd h not_top_lt

end Cert.Ranked

end
-- ==== Proof.RefValue.lean ====
/-
  The reference's stages read at an index: its logits are the plain formula of one logit, its scores their logistic, and
  its last result at place `r` is the scores at the pixel that the stable sort of the key column puts there.
-/
module

public import proofs.«01_k».proof.Proof.RefTerm
public import proofs.«01_k».proof.Proof.Count
public import proofs.«01_k».proof.Proof.Sigmoid
public import proofs.«01_k».proof.Proof.Logit
public import Idealize.ShloMosaic.Lib.Pointwise

@[expose] public section

set_option maxRecDepth 16384

noncomputable section

namespace Cert.ReferenceIdeal.Stage

open Cert.ReferenceIdeal Cert.ReferenceIdeal.Gen Cert.Ranked Idealize.ShloMosaic Idealize.ShloMosaic.TcCoe Idealize.SL.Sem

/-! ## Logits and scores -/

/-- The reference's logit of batch `b`, pixel `p` and column `o` is one logit over that batch's padded features. -/
theorem logits_apply (X : FVec Ideal S4x768x32x32 .f32) (W : FVec Ideal S768x768x3x3 .f32) (b1 : FVec Ideal S768 .f32)
    (W2 : FVec Ideal S5x768x1x1 .f32) (b2 : FVec Ideal S5 .f32) (b : Fin 4) (p : Fin 1024) (o : Fin 5) :
    logits (hidden (conv (padded X) W) b1) W2 b2 (ix3 b p o)
      = logitAt (fun u v c => padded X (ix4 b c u v))
          (fun t c k => W (ix4 k c ⟨t / 3, by omega⟩ ⟨t % 3, by omega⟩)) (fun k => b1 (ix1 k))
          (fun k => W2 (ix4 o k 0 0)) (b2 (ix1 o)) p := by
  pointwise [logits, hidden, conv, tap]
  simp only [logitAt, hiddenAt, tapAt, Fin.val_zero, Fin.val_one, Fin.val_two, Nat.zero_add]
  refine congrArg (· + _) (Finset.sum_congr rfl fun k _ => ?_)
  rw [mul_comm]
  simp only [mul_comm (W _)]
  rfl

/-- A score is the logistic of its logit. -/
theorem scores_apply (L : FVec Ideal S4x1024x5 .f32) (b : Fin 4) (p : Fin 1024) (o : Fin 5) :
    scores L (ix3 b p o) = Ideal.logistic (L (ix3 b p o)) := by
  pointwise [scores]
  rfl

/-- The key of a pixel is its score in the last column. -/
theorem keys_apply (sc : FVec Ideal S4x1024x5 .f32) (b : Fin 4) (p : Fin 1024) : keys sc (ix2 b p) = sc (ix3 b p 4) := by
  pointwise [keys]

/-! ## The hundred best -/

/-- Moving along the second axis of a table changes the second coordinate. -/
theorem along_row (b : Fin 4) (r k : Fin 1024) : Shape.Idx.along (s := S4x1024) (ix2 b r) 1 k = ix2 b k := by
  funext a
  match a with
  | ⟨0, _⟩ => rfl
  | ⟨1, _⟩ => rfl

/-- The order the sort asks for is "greater first". -/
theorem gt_word (x y : EReal) :
    ((FloatOps.cmpfTotal (F := Ideal) (φ := .f32) .gt x y : BitVec 1) == 1#1) = decide (y < x) := by
  show ((BitVec.ofBool (decide (y < x)) : BitVec 1) == 1#1) = decide (y < x)
  cases decide (y < x) <;> rfl

/-- The `r`-th best key of batch `b` is the key at place `r`. -/
theorem best_key (x : FVec Ideal S4x1024 .f32) (b : Fin 4) (r : Fin 100) :
    (best x).1 (ix2 b r) = x (ix2 b (place (fun q => x (ix2 b q)) ⟨r, by omega⟩)) := by
  pointwise [best, Host.topK, Host.sort2]
  simp only [along_row, gt_word]
  rfl

/-- The `r`-th best pixel of batch `b` is the pixel at place `r`. -/
theorem best_pixel (x : FVec Ideal S4x1024 .f32) (b : Fin 4) (r : Fin 100) :
    (best x).2 (ix2 b r) = BitVec.ofNat 32 (place (fun q => x (ix2 b q)) ⟨r, by omega⟩) := by
  pointwise [best, Host.topK, Host.sort2]
  simp only [along_row, gt_word]
  rfl

/-! ## Reading the other four scores there -/

/-- A pixel number below 1024 is not negative, so it is not counted from the end. -/
theorem wrapped_apply (i : IVec S4x100x1 32) (b : Fin 4) (r : Fin 100) (q : Fin 1024)
    (hi : i (ix3 b r 0) = BitVec.ofNat 32 q) : wrapped i (ix3 b r 0) = BitVec.ofNat 32 q := by
  pointwise [wrapped, hi]
  have e : IntOp.cmpi .slt (BitVec.ofNat 32 q) 0#32 = 0#1 := by
    show BitVec.ofBool ((BitVec.ofNat 32 q).slt (BitVec.ofNat 32 0)) = 0#1
    rw [BitVec.slt_eq_decide, toInt_word _ (by omega), toInt_word _ (by omega), decide_eq_false (by omega)]
    rfl
  rw [e]
  rfl

/-- A pixel number below 1024 is in range. -/
theorem inRange_apply (i : IVec S4x100x1 32) (b : Fin 4) (r : Fin 100) (q : Fin 1024)
    (hi : i (ix3 b r 0) = BitVec.ofNat 32 q) : inRange i (ix2 b r) = 1#1 := by
  pointwise [inRange]
  have h0 : IntOp.cmpi .sge (BitVec.ofNat 32 q) 0#32 = 1#1 := by
    show BitVec.ofBool ((BitVec.ofNat 32 0).sle (BitVec.ofNat 32 q)) = 1#1
    rw [BitVec.sle_eq_decide, toInt_word _ (by omega), toInt_word _ (by omega), decide_eq_true (by omega)]
    rfl
  have h1 : IntOp.cmpi .sle (BitVec.ofNat 32 q) 1023#32 = 1#1 := by
    show BitVec.ofBool ((BitVec.ofNat 32 q).sle (BitVec.ofNat 32 1023)) = 1#1
    rw [BitVec.sle_eq_decide, toInt_word _ (by omega), toInt_word _ (by omega), decide_eq_true (by omega)]
    rfl
  rw [Finset.univ_unique, Finset.fold_singleton]
  show IntOp.andi (IntOp.andi (IntOp.cmpi .sge (i (ix3 b r 0)) 0#32) (IntOp.cmpi .sle (i (ix3 b r 0)) 1023#32)) 1#1 = 1#1
  rw [hi, h0, h1]
  rfl

/-- The gather reads, in batch `b`, the row that the pixel number names. -/
theorem gather_apply (x : FVec Ideal S4x1024x4 .f32) (i : IVec S4x100x1 32) (b : Fin 4) (r : Fin 100) (o : Fin 4)
    (q : Fin 1024) (hi : i (ix3 b r 0) = BitVec.ofNat 32 q) :
    Host.gather gather_S4x1024x4_S4x100x1_S4x100x4_2_1_0_0_1_2_114 x i (ix3 b r o) = x (ix3 b q o) := by
  refine congrArg x (funext fun a => Fin.ext ?_)
  show GatherDims.start _ (ix3 b r o) i a + GatherDims.batchCoord _ (ix3 b r o) a + GatherDims.offCoord _ (ix3 b r o) a = _
  match a with
  | ⟨0, _⟩ =>
    show 0 + b.val + 0 = b.val
    omega
  | ⟨1, _⟩ =>
    have e : GatherDims.siIdx gather_S4x1024x4_S4x100x1_S4x100x4_2_1_0_0_1_2_114 (ix3 b r o) ⟨0, Nat.one_pos⟩ = ix3 b r 0 := by
      funext c
      match c with
      | ⟨0, _⟩ => rfl
      | ⟨1, _⟩ => rfl
      | ⟨2, _⟩ => rfl
    show min (i (GatherDims.siIdx gather_S4x1024x4_S4x100x1_S4x100x4_2_1_0_0_1_2_114 (ix3 b r o) ⟨0, Nat.one_pos⟩)).toInt.toNat
      (1024 - 1) + 0 + 0 = q.val
    rw [e, hi, toInt_word _ (by omega)]
    omega
  | ⟨2, _⟩ =>
    show 0 + 0 + o.val = o.val
    omega

/-- The four scores read at the pixel that the number names. -/
theorem boxes_apply (sc : FVec Ideal S4x1024x5 .f32) (i : IVec S4x100x1 32) (b : Fin 4) (r : Fin 100) (o : Fin 4)
    (q : Fin 1024) (hi : i (ix3 b r 0) = BitVec.ofNat 32 q) :
    boxes sc i (ix3 b r o) = sc (ix3 b q ⟨o, by omega⟩) := by
  pointwise [boxes]
  rw [inRange_apply i b r q hi, gather_apply _ i b r o q hi]
  pointwise

/-- The last result at place `r`: the scores of the pixel that the key column's stable sort puts at place `r`. -/
theorem chosen_apply (sc : FVec Ideal S4x1024x5 .f32) (b : Fin 4) (r : Fin 100) (o : Fin 5) :
    chosen sc (ix3 b r o) = sc (ix3 b (place (fun q => sc (ix3 b q 4)) ⟨r, by omega⟩) o) := by
  have hk : (fun q => keys sc (ix2 b q)) = fun q => sc (ix3 b q 4) := funext fun q => keys_apply sc b q
  have hi : wrapped (column (best (keys sc)).2) (ix3 b r 0)
      = BitVec.ofNat 32 (place (fun q => sc (ix3 b q 4)) ⟨r, by omega⟩) := by
    refine wrapped_apply _ b r _ ?_
    pointwise [column]
    rw [best_pixel, hk]
  pointwise [chosen, joined]
  by_cases ho : (o : ℕ) < 4
  · rw [dif_pos ho]
    exact boxes_apply sc _ b r ⟨o, ho⟩ _ hi
  · obtain rfl : o = 4 := Fin.ext (show (o : ℕ) = 4 by omega)
    rw [dif_neg ho]
    refine (best_key (keys sc) b r).trans ?_
    rw [hk]
    exact keys_apply sc b _

/-- The reference's last result at batch `b`, place `r` and column `o`: the logistic of the logit at the pixel that the
    stable sort of the last column's logits puts at place `r`. -/
theorem result_apply (X : FVec Ideal S4x768x32x32 .f32) (W : FVec Ideal S768x768x3x3 .f32) (b1 : FVec Ideal S768 .f32)
    (W2 : FVec Ideal S5x768x1x1 .f32) (b2 : FVec Ideal S5 .f32) (b : Fin 4) (r : Fin 100) (o : Fin 5) :
    result X W b1 W2 b2 (ix3 b r o)
      = Ideal.logistic (logits (hidden (conv (padded X) W) b1) W2 b2 (ix3 b
          (place (fun q => logits (hidden (conv (padded X) W) b1) W2 b2 (ix3 b q 4)) ⟨r, by omega⟩) o)) := by
  unfold result
  rw [chosen_apply, scores_apply]
  have e : (fun q => scores (logits (hidden (conv (padded X) W) b1) W2 b2) (ix3 b q 4))
      = fun q => Ideal.logistic (logits (hidden (conv (padded X) W) b1) W2 b2 (ix3 b q 4)) :=
    funext fun q => scores_apply _ b q 4
  rw [e, place_strictMono logistic_strictMono]

/-- The padded features of batch `b`. -/
theorem padded_apply (X : FVec Ideal S4x768x32x32 .f32) (b : Fin 4) (c : Fin 768) (u v : Fin 34) :
    padded X (ix4 b c u v) = bordered (fun k y x => X (ix4 b k y x)) u v c := by
  pointwise [padded, bordered]

/-- The reference's last result by the common formula. -/
theorem result_pick (X : FVec Ideal S4x768x32x32 .f32) (W : FVec Ideal S768x768x3x3 .f32) (b1 : FVec Ideal S768 .f32)
    (W2 : FVec Ideal S5x768x1x1 .f32) (b2 : FVec Ideal S5 .f32) (b : Fin 4) (r : Fin 100) (o : Fin 5) :
    result X W b1 W2 b2 (ix3 b r o)
      = pick (logitOf (fun c y x => X (ix4 b c y x)) (fun k c u v => W (ix4 k c u v)) (fun k => b1 (ix1 k))
          (fun o k => W2 (ix4 o k 0 0)) (fun o => b2 (ix1 o))) r o := by
  rw [result_apply]
  simp only [logits_apply, padded_apply]
  rfl

end Cert.ReferenceIdeal.Stage

end
-- ==== Proof.Same.lean ====
/-
  The kernel's last result, as a function of the arguments, is the reference's.
-/
module

public import proofs.«01_k».proof.Proof.KernelFinal
public import proofs.«01_k».proof.Proof.RefValue

@[expose] public section

set_option maxRecDepth 16384

noncomputable section

namespace Cert.Ranked

open Idealize.ShloMosaic

/-- The first five columns of the kernel's output array are the reference's last result. -/
theorem results_eq (X : FVec Ideal Cert.KernelIdeal.S4x768x32x32 .f32) (W : FVec Ideal Cert.KernelIdeal.S768x768x3x3 .f32)
    (b1 : FVec Ideal Cert.KernelIdeal.S768 .f32) (W2 : FVec Ideal Cert.KernelIdeal.S5x768x1x1 .f32)
    (b2 : FVec Ideal Cert.KernelIdeal.S5 .f32) :
    Cert.KernelIdeal.Value.firstFive (Cert.KernelIdeal.Value.ranked (Cert.KernelIdeal.Value.featPadded X)
        (Cert.KernelIdeal.Value.weightSlabs W) (Cert.KernelIdeal.Value.biasRow b1) (Cert.KernelIdeal.Value.headPadded W2)
        (Cert.KernelIdeal.Value.headBias b2))
      = Cert.ReferenceIdeal.Stage.result (F := Ideal) X W b1 W2 b2 := by
  funext j
  rw [eq_ix3 j]
  exact (Cert.KernelIdeal.Value.firstFive_pick X W b1 W2 b2 (j 0) (j 1) (j 2)).trans
    (Cert.ReferenceIdeal.Stage.result_pick X W b1 W2 b2 (j 0) (j 1) (j 2)).symm

end Cert.Ranked

end
-- ==== Proof.lean ====
/-
  The certificate's claim: each program's run ends with its arguments unchanged, and the idealized kernel and the
  idealized reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefRun
public import proofs.«01_k».proof.Proof.Same
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- THE VALUE CLAIM: on equal arguments the idealized kernel and the idealized reference end with equal results. -/
theorem results : Cert.algebraic_KernelIdeal_ReferenceIdeal (hKernelIdeal := Cert.KernelIdeal.Gen.facts)
    (hReferenceIdeal := Cert.ReferenceIdeal.Gen.facts) := by
  intro m g m' g' _ agree
  refine ⟨_, _, _, Cert.KernelIdeal.Value.run m g, θ_run_mono (Cert.ReferenceIdeal.Stage.run m' g') fun r h c => ?_⟩
  obtain ⟨a0, a1, a2, a3, a4, a5, a6⟩ := agree c
  obtain ⟨h0, h1, h2, h⟩ := h c
  refine ⟨h0.trans ?_, h1.trans ?_, h2.trans ?_, h⟩
  · rw [a5]; rfl
  · rw [a6]; rfl
  · rw [a0, a1, a2, a3, a4, Cert.KernelIdeal.Value.final, Cert.KernelIdeal.Value.entry_features,
      Cert.KernelIdeal.Value.entry_weights, Cert.KernelIdeal.Value.entry_bias, Cert.KernelIdeal.Value.entry_head,
      Cert.KernelIdeal.Value.entry_headBias]
    exact (Cert.Ranked.results_eq _ _ _ _ _).symm

/-- THE CLAIM. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => θ_run_mono (Cert.ReferenceIdeal.Stage.run m ρ) fun r h => ⟨fun c => (h c).2.2.2, sem_eq_zero_of_no_sems (by decide) r.2⟩,
  trivial, results⟩

end Cert.Proof

end
